-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4736 : Shape := ⟨3, ![1, 4096, 4736]⟩
abbrev S4736 : Shape := ⟨1, ![4736]⟩
abbrev S3584x4736 : Shape := ⟨2, ![3584, 4736]⟩
abbrev S3584 : Shape := ⟨1, ![3584]⟩
abbrev S4096x4736 : Shape := ⟨2, ![4096, 4736]⟩
abbrev S4096x3584 : Shape := ⟨2, ![4096, 3584]⟩
abbrev S4096 : Shape := ⟨1, ![4096]⟩
abbrev S512x4736 : Shape := ⟨2, ![512, 4736]⟩
abbrev S512x3584 : Shape := ⟨2, ![512, 3584]⟩
abbrev S512 : Shape := ⟨1, ![512]⟩
abbrev S512x1 : Shape := ⟨2, ![512, 1]⟩
abbrev S64x4736 : Shape := ⟨2, ![64, 4736]⟩
abbrev S1x4736 : Shape := ⟨2, ![1, 4736]⟩
abbrev S64 : Shape := ⟨1, ![64]⟩
abbrev S64x1 : Shape := ⟨2, ![64, 1]⟩
abbrev S128x128 : Shape := ⟨2, ![128, 128]⟩
abbrev S128x1 : Shape := ⟨2, ![128, 1]⟩
abbrev S128 : Shape := ⟨1, ![128]⟩
abbrev S512x512 : Shape := ⟨2, ![512, 512]⟩
abbrev S1x512 : Shape := ⟨2, ![1, 512]⟩
abbrev S1x4096x3584 : Shape := ⟨3, ![1, 4096, 3584]⟩
abbrev S1x4096x1 : Shape := ⟨3, ![1, 4096, 1]⟩

abbrev nBuf : Space → Nat
  | .hbm => 12
  | .vmem => 15
  | .smem => 0
  | _ => 0

abbrev bufTy : (tb : Table) → Fin (tcTables nBuf tb) → BufTy
  | .hbm, ⟨0, _⟩ => ⟨S1x4096x4736, .bf16⟩
  | .hbm, ⟨1, _⟩ => ⟨S4736, .f32⟩
  | .hbm, ⟨2, _⟩ => ⟨S3584x4736, .i8⟩
  | .hbm, ⟨3, _⟩ => ⟨S3584, .f32⟩
  | .hbm, ⟨4, _⟩ => ⟨S3584, .f32⟩
  | .hbm, ⟨5, _⟩ => ⟨S4096x4736, .bf16⟩
  | .hbm, ⟨6, _⟩ => ⟨S4096x3584, .bf16⟩
  | .hbm, ⟨7, _⟩ => ⟨S4096x4736, .i8⟩
  | .hbm, ⟨8, _⟩ => ⟨S4096, .f32⟩
  | .hbm, ⟨9, _⟩ => ⟨S1x4096x3584, .bf16⟩
  | .hbm, ⟨10, _⟩ => ⟨S1x4096x4736, .i8⟩
  | .hbm, ⟨11, _⟩ => ⟨S1x4096x1, .f32⟩
  | .local _ .vmem, ⟨0, _⟩ => ⟨S512x4736, .bf16⟩
  | .local _ .vmem, ⟨1, _⟩ => ⟨S512x4736, .bf16⟩
  | .local _ .vmem, ⟨2, _⟩ => ⟨S4736, .f32⟩
  | .local _ .vmem, ⟨3, _⟩ => ⟨S3584x4736, .i8⟩
  | .local _ .vmem, ⟨4, _⟩ => ⟨S3584, .f32⟩
  | .local _ .vmem, ⟨5, _⟩ => ⟨S3584, .f32⟩
  | .local _ .vmem, ⟨6, _⟩ => ⟨S512x3584, .bf16⟩
  | .local _ .vmem, ⟨7, _⟩ => ⟨S512x3584, .bf16⟩
  | .local _ .vmem, ⟨8, _⟩ => ⟨S512x4736, .i8⟩
  | .local _ .vmem, ⟨9, _⟩ => ⟨S512x4736, .i8⟩
  | .local _ .vmem, ⟨10, _⟩ => ⟨S512, .f32⟩
  | .local _ .vmem, ⟨11, _⟩ => ⟨S512, .f32⟩
  | .local _ .vmem, ⟨12, _⟩ => ⟨S512x4736, .bf16⟩
  | .local _ .vmem, ⟨13, _⟩ => ⟨S512x1, .f32⟩
  | .local _ .vmem, ⟨14, _⟩ => ⟨S512x1, .f32⟩
  | _, _ => ⟨S1x4096x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 1 → Nat :=
  let arg0 : BitVec 32 := BitVec.ofNat 32 (i 0).val
  let c7_i32 : BitVec 32 := 7#32
  let v0 : BitVec 32 := Scalar.minsi arg0 c7_i32
  let c0_i32 : BitVec 32 := 0#32
  ![v0.toNat]

abbrev stage0_0 : Fin 2 → Memref sig .tc .vmem S512x4736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4736 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x4736 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4736 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x4096x4736 : Shape := ⟨3, ![1, 4096, 4736]⟩
abbrev S4736 : Shape := ⟨1, ![4736]⟩
abbrev S3584x4736 : Shape := ⟨2, ![3584, 4736]⟩
abbrev S3584 : Shape := ⟨1, ![3584]⟩
abbrev S1x4096x3584 : Shape := ⟨3, ![1, 4096, 3584]⟩
abbrev S1x4096x1 : Shape := ⟨3, ![1, 4096, 1]⟩
abbrev S1x1x4736 : Shape := ⟨3, ![1, 1, 4736]⟩
abbrev S1x4096 : Shape := ⟨2, ![1, 4096]⟩
abbrev S1x4096x1x4736 : Shape := ⟨4, ![1, 4096, 1, 4736]⟩
abbrev S1x1x3584x4736 : Shape := ⟨4, ![1, 1, 3584, 4736]⟩
abbrev S1x4096x3584x4736 : Shape := ⟨4, ![1, 4096, 3584, 4736]⟩
abbrev S1x1x3584 : Shape := ⟨3, ![1, 1, 3584]⟩

abbrev nBuf : Space → Nat
  | .hbm => 8
  | .vmem => 8
  | .smem => 0
  | _ => 0

abbrev bufTy : (tb : Table) → Fin (tcTables nBuf tb) → BufTy
  | .hbm, ⟨0, _⟩ => ⟨S1x4096x4736, .bf16⟩
  | .hbm, ⟨1, _⟩ => ⟨S4736, .f32⟩
  | .hbm, ⟨2, _⟩ => ⟨S3584x4736, .i8⟩
  | .hbm, ⟨3, _⟩ => ⟨S3584, .f32⟩
  | .hbm, ⟨4, _⟩ => ⟨S3584, .f32⟩
  | .hbm, ⟨5, _⟩ => ⟨S1x4096x3584, .bf16⟩
  | .hbm, ⟨6, _⟩ => ⟨S1x4096x4736, .i8⟩
  | .hbm, ⟨7, _⟩ => ⟨S1x4096x1, .f32⟩
  | .local _ .vmem, ⟨0, _⟩ => ⟨S1x4096x4736, .bf16⟩
  | .local _ .vmem, ⟨1, _⟩ => ⟨S4736, .f32⟩
  | .local _ .vmem, ⟨2, _⟩ => ⟨S3584x4736, .i8⟩
  | .local _ .vmem, ⟨3, _⟩ => ⟨S3584, .f32⟩
  | .local _ .vmem, ⟨4, _⟩ => ⟨S3584, .f32⟩
  | .local _ .vmem, ⟨5, _⟩ => ⟨S1x4096x3584, .bf16⟩
  | .local _ .vmem, ⟨6, _⟩ => ⟨S1x4096x4736, .i8⟩
  | .local _ .vmem, ⟨7, _⟩ => ⟨S1x4096x1, .f32⟩
  | _, _ => ⟨S1x4096x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x4096x4736 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4736 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x4736 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096x4736 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
/- The layer's mathematics, one row of the activation at a time: the row's smoothed entries, its scale,
   its int8 codes and its product with one row of the weight. Both programs' values are stated in these
   terms. -/
module

public import Idealize.ShloMosaic.Lib.Pipeline.ValueKit
public import Idealize.ShloMosaic.Lib.Pointwise

@[expose] public section

noncomputable section

namespace Cert.Proof

open Idealize.ShloMosaic

/-- A row of the activation, read as extended reals. -/
abbrev Row := Fin 4736 → Ideal .bf16
/-- The smoothing factors. -/
abbrev Smooth := Fin 4736 → Ideal .f32

/-- Entry `k` of the smoothed row. -/
def rowQ (u : Row) (s : Smooth) (k : Fin 4736) : Ideal .f32 := Ideal.div (u k) (s k)

/-- The largest magnitude of the smoothed row. -/
def rowMax (u : Row) (s : Smooth) : Ideal .f32 :=
  Finset.univ.fold max (Ideal.ofBits FTy.f32 4286578688#32)
    (fun k => FloatOps.absf (F := Ideal) (φ := .f32) (Ideal.div (u k) (s k)))

/-- The row's scale: its largest magnitude over 127 when that is positive, else one. -/
def rowScale (u : Row) (s : Smooth) : Ideal .f32 :=
  if 0 < rowMax u s then Ideal.div (rowMax u s) (Ideal.ofBits FTy.f32 1123942400#32) else 1

/-- Code `k` of the row: the smoothed entry over the scale, rounded half to even and clamped. -/
def rowCode (u : Row) (s : Smooth) (k : Fin 4736) : BitVec 8 :=
  FloatOps.fptosi (F := Ideal) (φ := .f32) 8
    (min (Ideal.ofBits FTy.f32 1123942400#32)
      (max (Ideal.ofBits FTy.f32 3271426048#32)
        (Ideal.liftRound Ideal.roundHalfEven (Ideal.div (rowQ u s k) (rowScale u s)))))

/-- The exact product of the row's codes with a row of weight codes. -/
def rowDot (u : Row) (s : Smooth) (w : Fin 4736 → BitVec 8) : Ideal .f32 :=
  ∑ k : Fin 4736, FloatOps.sitofp (F := Ideal) .bf16 (rowCode u s k) * FloatOps.sitofp (F := Ideal) .bf16 (w k)

/-- The layer's result for one row of the activation and one output column. -/
def rowY (u : Row) (s : Smooth) (w : Fin 4736 → BitVec 8) (ws b : Ideal .f32) : Ideal .bf16 :=
  rowDot u s w * rowScale u s * ws + b

/-- One quantised entry at an index, over any shape. -/
theorem code_apply {S : Shape} (a w : FVec Ideal S .f32) (j : S.Idx) :
    (fptosi 8 (minimumf (broadcast S (Scalar.ofBits .f32 0x42FE0000#32))
      (maximumf (broadcast S (Scalar.ofBits .f32 0xC2FE0000#32)) (roundeven (divf a w)))) : IVec S 8) j
      = FloatOps.fptosi (F := Ideal) (φ := .f32) 8 (min (Ideal.ofBits FTy.f32 1123942400#32)
        (max (Ideal.ofBits FTy.f32 3271426048#32)
          (Ideal.liftRound Ideal.roundHalfEven (Ideal.div (a j) (w j))))) := by
  pointwise

/-- One scale at an index, over any shape. -/
theorem scale_apply {S : Shape} (a : FVec Ideal S .f32) (j : S.Idx) :
    (select (cmpf .ogt a (broadcast S (Scalar.ofBits .f32 0x00000000#32)))
      (divf a (broadcast S (Scalar.ofBits .f32 0x42FE0000#32)))
      (broadcast S (Scalar.ofBits .f32 0x3F800000#32)) : FVec Ideal S .f32) j
      = if 0 < a j then Ideal.div (a j) (Ideal.ofBits FTy.f32 1123942400#32) else 1 := by
  pointwise

end Cert.Proof

end
-- ==== Proof.Payloads.lean ====
/- The kernel's pure values at an index, in the terms of `Spec`: the codes and scales of a piece of 64
   rows, the transposition of a column of scales into a row, one block of the product. -/
module

public import proofs.«01_k».proof.Proof.Gen.KernelIdeal.Skeleton
public import proofs.«01_k».proof.Proof.Spec

@[expose] public section

set_option maxRecDepth 16384

noncomputable section

namespace Cert.Proof

open Idealize.ShloMosaic
open Cert.KernelIdeal Cert.KernelIdeal.Gen

/-- The smoothed entries of a piece. -/
theorem pay4_at (v : Vec Ideal S64x4736 .bf16) (s : Vec Ideal S4736 .f32) (p : Fin 64) (k : Fin 4736) :
    k0_pay4 (F := Ideal) v s (ix2 p k) = rowQ (fun k => v (ix2 p k)) (fun k => s (ix1 k)) k := by
  unfold k0_pay4 rowQ
  pointwise

/-- The rows' largest magnitudes. -/
theorem kmax_at (v : FVec Ideal S64x4736 .f32) (p : Fin 64) :
    (shapeCast S64x1 (multiReduction .maximumf [1] S64 (absf v) 0xFF800000#32
      reduces_S64x4736_S64 (.inl rfl) rfl) shapeCasts_S64_S64x1) (ix2 p 0)
      = Finset.univ.fold max (Ideal.ofBits FTy.f32 4286578688#32)
          (fun k => FloatOps.absf (F := Ideal) (φ := .f32) (v (ix2 p k))) := by
  pointwise

/-- The scales of a piece. -/
theorem pay5_at (v : Vec Ideal S64x4736 .bf16) (s : Vec Ideal S4736 .f32) (p : Fin 64) :
    k0_pay5 (F := Ideal) v s (ix2 p 0) = rowScale (fun k => v (ix2 p k)) (fun k => s (ix1 k)) := by
  unfold k0_pay5
  rw [scale_apply, kmax_at]
  simp only [pay4_at]
  rfl

/-- The scales of a piece, as stored. -/
theorem pay7_at (v : Vec Ideal S64x4736 .bf16) (s : Vec Ideal S4736 .f32) (p : Fin 64) :
    k0_pay7 (F := Ideal) v s (ix2 p 0) = rowScale (fun k => v (ix2 p k)) (fun k => s (ix1 k)) := by
  rw [← pay5_at]
  unfold k0_pay7
  pointwise

/-- The codes of a piece. -/
theorem pay6_at (v : Vec Ideal S64x4736 .bf16) (s : Vec Ideal S4736 .f32) (p : Fin 64) (k : Fin 4736) :
    k0_pay6 (F := Ideal) v s (ix2 p k) = rowCode (fun k => v (ix2 p k)) (fun k => s (ix1 k)) k := by
  have h : (broadcastTo S64x4736 (k0_pay5 (F := Ideal) v s) broadcasts_S64x1_S64x4736) (ix2 p k)
      = k0_pay5 (F := Ideal) v s (ix2 p 0) := by
    generalize k0_pay5 (F := Ideal) v s = w
    pointwise
  unfold k0_pay6
  rw [code_apply, h, pay4_at, pay5_at]
  rfl

/-- The sum over the rows of the diagonal picture of a column is the column. -/
theorem pay44_at (v : Vec Ideal S128x1 .f32) (a : Fin 128) : k0_pay44 (F := Ideal) v (ix1 a) = v (ix2 a 0) := by
  unfold k0_pay44 k0_pay43
  pointwise
  rw [Finset.sum_eq_single a]
  · rw [IntOp.cmpi]
    simp [Scalar.select]
  · intro b _ hb
    rw [IntOp.cmpi]
    have h : BitVec.ofNat 32 b.val ≠ BitVec.ofNat 32 a.val := by
      intro h
      have h := congrArg BitVec.toNat h
      simp only [BitVec.toNat_ofNat] at h
      exact hb (Fin.ext (by omega))
    have h' : (BitVec.ofNat 32 b.val == BitVec.ofNat 32 a.val) = false := beq_false_of_ne h
    simp only [h']
    rfl
  · simp

/-- One block of the product: the exact dot of a carried row of codes with a row of weight codes, scaled. -/
theorem pay48_at (a : Vec Ideal S512x4736 .bf16) (w : Vec Ideal S512x4736 .i8) (c : Vec Ideal S512x1 .f32)
    (ws b : Vec Ideal S512 .f32) (p q : Fin 512) :
    k0_pay48 (F := Ideal) a w c ws b (ix2 p q)
      = (∑ k : Fin 4736, a (ix2 p k) * FloatOps.sitofp (F := Ideal) .bf16 (w (ix2 q k))) * c (ix2 p 0) * ws (ix1 q) + b (ix1 q) := by
  unfold k0_pay48
  pointwise

/-- The codes as they are handed over: converted, entry by entry. -/
theorem pay41_at (v : Vec Ideal S512x4736 .i8) (p : Fin 512) (k : Fin 4736) :
    k0_pay41 (F := Ideal) v (ix2 p k) = FloatOps.sitofp (F := Ideal) .bf16 (v (ix2 p k)) := by
  unfold k0_pay41
  pointwise

/-- The scales as they are handed over: unchanged. -/
theorem pay42_at (v : Vec Ideal S512x1 .f32) (p : Fin 512) : k0_pay42 (F := Ideal) v (ix2 p 0) = v (ix2 p 0) := by
  unfold k0_pay42
  pointwise

section
variable (a : Vec Ideal S512x4736 .bf16) (w : Vec Ideal S512x4736 .i8) (c : Vec Ideal S512x1 .f32) (ws b : Vec Ideal S512 .f32)
theorem yB1 : k0_pay59 (F := Ideal) a w c ws b = k0_pay48 a w c ws b := rfl
theorem yB2 : k0_pay64 (F := Ideal) a w c ws b = k0_pay48 a w c ws b := rfl
theorem yB3 : k0_pay70 (F := Ideal) a w c ws b = k0_pay48 a w c ws b := rfl
theorem yB4 : k0_pay76 (F := Ideal) a w c ws b = k0_pay48 a w c ws b := rfl
theorem yB5 : k0_pay83 (F := Ideal) (k0_pay81 a w c) (k0_pay82 ws) b = k0_pay48 a w c ws b := rfl
theorem yB6 : k0_pay88 (F := Ideal) a w c ws b = k0_pay48 a w c ws b := rfl
theorem carryB (v : Vec Ideal S512x4736 .i8) : k0_pay93 (F := Ideal) v = k0_pay41 v := rfl
theorem carryScB (v : Vec Ideal S512x1 .f32) : k0_pay94 (F := Ideal) v = k0_pay42 v := rfl
end

section
variable (v : Vec Ideal S64x4736 .bf16) (s : Vec Ideal S4736 .f32)

theorem codeA1 : k0_pay12 (F := Ideal) (k0_pay8 v s) (k0_pay9 v s) (k0_pay10 v s) = k0_pay6 v s := rfl
theorem codeA2 : k0_pay16 (F := Ideal) v s = k0_pay6 v s := rfl
theorem codeA3 : k0_pay20 (F := Ideal) v s = k0_pay6 v s := rfl
theorem codeA4 : k0_pay26 (F := Ideal) (k0_pay22 v) (k0_pay23 s) = k0_pay6 v s := rfl
theorem codeA5 : k0_pay31 (F := Ideal) (k0_pay30 v s) = k0_pay6 v s := rfl
theorem codeA6 : k0_pay35 (F := Ideal) v s = k0_pay6 v s := rfl
theorem codeA7 : k0_pay39 (F := Ideal) v s = k0_pay6 v s := rfl
theorem codeB0 : k0_pay53 (F := Ideal) (k0_pay51 v s) k0_pay52 = k0_pay6 v s := rfl
theorem codeB1 : k0_pay57 (F := Ideal) v s = k0_pay6 v s := rfl
theorem codeB2 : k0_pay62 (F := Ideal) v s = k0_pay6 v s := rfl
theorem codeB3 : k0_pay68 (F := Ideal) (k0_pay65 v s) (k0_pay67 v s) = k0_pay6 v s := rfl
theorem codeB4 : k0_pay74 (F := Ideal) (k0_pay71 v s) (k0_pay72 v s) = k0_pay6 v s := rfl
theorem codeB5 : k0_pay79 (F := Ideal) v s = k0_pay6 v s := rfl
theorem codeB6 : k0_pay86 (F := Ideal) v s = k0_pay6 v s := rfl
theorem codeB7 : k0_pay91 (F := Ideal) v s = k0_pay6 v s := rfl
theorem scaleA1 : k0_pay13 (F := Ideal) (k0_pay9 v s) (k0_pay10 v s) = k0_pay7 v s := rfl
theorem scaleA2 : k0_pay17 (F := Ideal) (k0_pay15 v s) = k0_pay7 v s := rfl
theorem scaleA3 : k0_pay21 (F := Ideal) v s = k0_pay7 v s := rfl
theorem scaleA4 : k0_pay27 (F := Ideal) (k0_pay22 v) (k0_pay23 s) = k0_pay7 v s := rfl
theorem scaleA5 : k0_pay32 (F := Ideal) (k0_pay29 v s) = k0_pay7 v s := rfl
theorem scaleA6 : k0_pay36 (F := Ideal) v s = k0_pay7 v s := rfl
theorem scaleA7 : k0_pay40 (F := Ideal) v s = k0_pay7 v s := rfl
theorem scaleB0 : k0_pay54 (F := Ideal) (k0_pay50 v s) = k0_pay7 v s := rfl
theorem scaleB1 : k0_pay58 (F := Ideal) v s = k0_pay7 v s := rfl
theorem scaleB2 : k0_pay63 (F := Ideal) (k0_pay61 v s) = k0_pay7 v s := rfl
theorem scaleB3 : k0_pay69 (F := Ideal) (k0_pay66 v s) = k0_pay7 v s := rfl
theorem scaleB4 : k0_pay75 (F := Ideal) (k0_pay72 v s) = k0_pay7 v s := rfl
theorem scaleB5 : k0_pay80 (F := Ideal) v s = k0_pay7 v s := rfl
theorem scaleB6 : k0_pay87 (F := Ideal) v s = k0_pay7 v s := rfl
theorem scaleB7 : k0_pay92 (F := Ideal) (k0_pay90 v s) = k0_pay7 v s := rfl
end

section
variable (v : Vec Ideal S128x1 .f32)
theorem row1 : k0_pay45 (F := Ideal) v = k0_pay44 v := rfl
theorem row2 : k0_pay46 (F := Ideal) v = k0_pay44 v := rfl
theorem row3 : k0_pay1 (F := Ideal) (k0_pay47 v) = k0_pay44 v := rfl
theorem rowB0 : k0_pay96 (F := Ideal) v = k0_pay44 v := rfl
theorem rowB1 : k0_pay97 (F := Ideal) v = k0_pay44 v := rfl
theorem rowB2 : k0_pay2 (F := Ideal) k0_pay95 v (FloatOps.ofBits .f32 0#32) = k0_pay44 v := rfl
theorem rowB3 : k0_pay3 (F := Ideal) k0_pay95 v = k0_pay44 v := rfl
end

end Cert.Proof

end
-- ==== Proof.Blocks.lean ====
/- What one grid point writes, block by block: the codes and scales of the point's rows, the block of `y`
   of the rows whose codes the point was handed, and what it hands over to the next point. -/
module

public import proofs.«01_k».proof.Proof.Gen.KernelIdeal.Frame
public import proofs.«01_k».proof.Proof.Payloads
public import Idealize.ShloMosaic.Lib.Pipeline.ReadBack

@[expose] public section

set_option maxRecDepth 16384

noncomputable section

namespace Cert.Proof

open Idealize.ShloMosaic Idealize.ShloMosaic.TcCoe Idealize.SL.Sem
open Cert.KernelIdeal Cert.KernelIdeal.Gen

/-- The codes of a block of 512 rows. -/
def codesBlk (x0 : Vec Ideal S512x4736 .bf16) (x1 : Vec Ideal S4736 .f32) : Vec Ideal S512x4736 .i8 :=
  fun y => rowCode (fun k => x0 (ix2 (y 0) k)) (fun k => x1 (ix1 k)) (y 1)

/-- The scales of a block of 512 rows, as a column. -/
def scalesCol (x0 : Vec Ideal S512x4736 .bf16) (x1 : Vec Ideal S4736 .f32) : Vec Ideal S512x1 .f32 :=
  fun y => rowScale (fun k => x0 (ix2 (y 0) k)) (fun k => x1 (ix1 k))

/-- The scales of a block of 512 rows, as a row. -/
def scalesRow (x0 : Vec Ideal S512x4736 .bf16) (x1 : Vec Ideal S4736 .f32) : Vec Ideal S512 .f32 :=
  fun y => rowScale (fun k => x0 (ix2 (y 0) k)) (fun k => x1 (ix1 k))

/-- The codes of a block, as they are handed over. -/
def carryBlk (x0 : Vec Ideal S512x4736 .bf16) (x1 : Vec Ideal S4736 .f32) : Vec Ideal S512x4736 .bf16 :=
  fun y => FloatOps.sitofp (F := Ideal) .bf16 (codesBlk x0 x1 y)

/-- A block of `y` from handed-over codes `a` and scales `c`. -/
def yBlk (a : Vec Ideal S512x4736 .bf16) (c : Vec Ideal S512x1 .f32) (x2 : Vec Ideal S3584x4736 .i8)
    (x3 x4 : Vec Ideal S3584 .f32) : Vec Ideal S512x3584 .bf16 :=
  fun y => (∑ k : Fin 4736, a (ix2 (y 0) k) * FloatOps.sitofp (F := Ideal) .bf16 (x2 (ix2 (y 1) k)))
    * c (ix2 (y 0) 0) * x3 (ix1 (y 1)) + x4 (ix1 (y 1))

section Pieces

variable (u0 : Vec Ideal S512x4736 .bf16) (u1 : Vec Ideal S4736 .f32)

/-- Row `p` of a load of 64 rows from row `o` is row `o + p` of the block. -/
theorem ld_row (o : ℕ) (h : ∀ a, (![o, 0] : Fin 2 → Nat) a + S64x4736.size a ≤ S512x4736.size a)
    (p : Fin 64) (k : Fin 4736) (r : Fin 512) (hr : r.val = o + p.val) :
    View.ld (Val := Elt Ideal) (e' := .bf16) u0 (Rect.unit (s := S512x4736) ![o, 0] S64x4736.size h) (ix2 p k) = u0 (ix2 r k) := by
  refine View.ld_unit_apply_of (Val := Elt Ideal) (e := .bf16) u0 _ _ _ _ _ fun a => ?_
  fin_cases a
  · exact hr
  · exact (Nat.zero_add _).symm

/-- A piece of 64 rows of codes is the block's codes at those rows. -/
theorem code_piece (o : ℕ) (h : ∀ a, (![o, 0] : Fin 2 → Nat) a + S64x4736.size a ≤ S512x4736.size a)
    (x : S64x4736.Idx) :
    k0_pay6 (F := Ideal) (View.ld u0 (Rect.unit (s := S512x4736) ![o, 0] S64x4736.size h)) u1 x
      = codesBlk u0 u1 ((Rect.unit (s := S512x4736) ![o, 0] S64x4736.size h).emb x) := by
  idx_vars x
  rw [pay6_at]
  unfold codesBlk
  have e0 : (((Rect.unit (s := S512x4736) ![o, 0] S64x4736.size h).emb (ix2 x0 x1)) 0).val = o + x0.val := by
    rw [Rect.emb_apply]; show o + 1 * x0.val = _; omega
  have e1 : ((Rect.unit (s := S512x4736) ![o, 0] S64x4736.size h).emb (ix2 x0 x1)) 1 = x1 := by
    apply Fin.ext; rw [Rect.emb_apply]; show 0 + 1 * x1.val = _; omega
  rw [e1]
  congr 1
  funext k
  exact ld_row u0 o h x0 k _ e0

/-- A piece of 64 rows of scales is the block's scales at those rows. -/
theorem scale_piece (o : ℕ) (h : ∀ a, (![o, 0] : Fin 2 → Nat) a + S64x4736.size a ≤ S512x4736.size a)
    (h' : ∀ a, (![o, 0] : Fin 2 → Nat) a + S64x1.size a ≤ S512x1.size a)
    (x : S64x1.Idx) :
    k0_pay7 (F := Ideal) (View.ld u0 (Rect.unit (s := S512x4736) ![o, 0] S64x4736.size h)) u1 x
      = scalesCol u0 u1 ((Rect.unit (s := S512x1) ![o, 0] S64x1.size h').emb x) := by
  idx_vars x
  obtain rfl : x1 = 0 := Subsingleton.elim _ _
  rw [pay7_at]
  unfold scalesCol
  have e0 : (((Rect.unit (s := S512x1) ![o, 0] S64x1.size h').emb (ix2 x0 0)) 0).val = o + x0.val := by
    rw [Rect.emb_apply]; show o + 1 * x0.val = _; omega
  congr 1
  funext k
  exact ld_row u0 o h x0 k _ e0

/-- One more piece that is a block of `G`. -/
theorem piecesOf_cons {s : Shape} {e : EltTy} (G : s.Idx → Elt Ideal e) (r : Rect s) (w : r.shape.Idx → Elt Ideal e)
    (L : List (View.Piece (Elt Ideal) s e)) (h : ∀ x, w x = G (r.emb x)) (hL : View.PiecesOf G L) :
    View.PiecesOf G (⟨r, w⟩ :: L) := ⟨h, hL⟩

/-- One more piece of 64 rows of scales. -/
theorem scale_cons (o : ℕ) (h : ∀ a, (![o, 0] : Fin 2 → Nat) a + S64x4736.size a ≤ S512x4736.size a)
    (h' : ∀ a, (![o, 0] : Fin 2 → Nat) a + S64x1.size a ≤ S512x1.size a)
    (L : List (View.Piece (Elt Ideal) S512x1 .f32)) (hL : View.PiecesOf (scalesCol u0 u1) L) :
    View.PiecesOf (scalesCol u0 u1) (⟨Rect.unit (s := S512x1) ![o, 0] S64x1.size h',
      k0_pay7 (F := Ideal) (View.ld u0 (Rect.unit (s := S512x4736) ![o, 0] S64x4736.size h)) u1⟩ :: L) :=
  piecesOf_cons _ _ _ _ (scale_piece u0 u1 o h h') hL

/-- A piece of 128 scales, transposed to a row, is the block's scales there. -/
theorem row_piece (o : ℕ) (h : ∀ a, (![o] : Fin 1 → Nat) a + S128.size a ≤ S512.size a)
    (h' : ∀ a, (![o, 0] : Fin 2 → Nat) a + S128x1.size a ≤ S512x1.size a)
    (v : Vec Ideal S128x1 .f32) (hv : v = View.ld (scalesCol u0 u1) (Rect.unit (s := S512x1) ![o, 0] S128x1.size h'))
    (x : S128.Idx) :
    k0_pay44 (F := Ideal) v x = scalesRow u0 u1 ((Rect.unit (s := S512) ![o] S128.size h).emb x) := by
  idx_vars x
  rw [pay44_at, hv]
  unfold scalesRow
  have e0 : (((Rect.unit (s := S512) ![o] S128.size h).emb (ix1 x0)) 0).val = o + x0.val := by
    rw [Rect.emb_apply]; show o + 1 * x0.val = _; omega
  refine (View.ld_unit_apply_of (Val := Elt Ideal) (e := .f32) (scalesCol u0 u1) _ _ _ _
    (ix2 (((Rect.unit (s := S512) ![o] S128.size h).emb (ix1 x0)) 0) 0) fun a => ?_).trans rfl
  fin_cases a
  · exact e0
  · rfl

/-- A block of 512 columns of `y` is the block's `y` at those columns. -/
theorem y_piece (a : Vec Ideal S512x4736 .bf16) (c : Vec Ideal S512x1 .f32) (x2 : Vec Ideal S3584x4736 .i8)
    (x3 x4 : Vec Ideal S3584 .f32) (o : ℕ)
    (h : ∀ a, (![0, o] : Fin 2 → Nat) a + S512x512.size a ≤ S512x3584.size a)
    (h2 : ∀ a, (![o, 0] : Fin 2 → Nat) a + S512x4736.size a ≤ S3584x4736.size a)
    (h3 : ∀ a, (![o] : Fin 1 → Nat) a + S512.size a ≤ S3584.size a) (x : S512x512.Idx) :
    k0_pay48 (F := Ideal) a (View.ld x2 (Rect.unit (s := S3584x4736) ![o, 0] S512x4736.size h2)) c
        (View.ld x3 (Rect.unit (s := S3584) ![o] S512.size h3)) (View.ld x4 (Rect.unit (s := S3584) ![o] S512.size h3)) x
      = yBlk a c x2 x3 x4 ((Rect.unit (s := S512x3584) ![0, o] S512x512.size h).emb x) := by
  idx_vars x
  rw [pay48_at]
  unfold yBlk
  have e0 : ((Rect.unit (s := S512x3584) ![0, o] S512x512.size h).emb (ix2 x0 x1)) 0 = x0 := by
    apply Fin.ext; rw [Rect.emb_apply]; show 0 + 1 * x0.val = _; omega
  have e1 : (((Rect.unit (s := S512x3584) ![0, o] S512x512.size h).emb (ix2 x0 x1)) 1).val = o + x1.val := by
    rw [Rect.emb_apply]; show o + 1 * x1.val = _; omega
  rw [e0]
  generalize ((Rect.unit (s := S512x3584) ![0, o] S512x512.size h).emb (ix2 x0 x1)) 1 = q at e1
  have h3' : ∀ v : Vec Ideal S3584 .f32, View.ld (Val := Elt Ideal) (e' := .f32) v (Rect.unit (s := S3584) ![o] S512.size h3) (ix1 x1) = v (ix1 q) := by
    intro v
    refine View.ld_unit_apply_of (Val := Elt Ideal) (e := .f32) v _ _ _ _ _ fun a => ?_
    fin_cases a
    exact e1
  have h2' : ∀ k : Fin 4736, View.ld (Val := Elt Ideal) (e' := .i8) x2 (Rect.unit (s := S3584x4736) ![o, 0] S512x4736.size h2) (ix2 x1 k) = x2 (ix2 q k) := by
    intro k
    refine View.ld_unit_apply_of (Val := Elt Ideal) (e := .i8) x2 _ _ _ _ _ fun a => ?_
    fin_cases a
    · exact e1
    · exact (Nat.zero_add _).symm
  have hs : (∑ k : Fin 4736, a (ix2 x0 k) * FloatOps.sitofp (F := Ideal) .bf16 (View.ld (Val := Elt Ideal) (e' := .i8) x2 (Rect.unit (s := S3584x4736) ![o, 0] S512x4736.size h2) (ix2 x1 k)))
      = ∑ k : Fin 4736, a (ix2 x0 k) * FloatOps.sitofp (F := Ideal) .bf16 (x2 (ix2 q k)) :=
    Finset.sum_congr rfl fun k _ => by rw [h2' k]
  exact congrArg₂ (· + ·) (congrArg₂ (· * ·) (congrArg₂ (· * ·) hs rfl) (h3' x3)) (h3' x4)

/-- The two latest pieces of 64 rows cover the 128 rows read. -/
theorem cover_heads (o : ℕ) (h1 : ∀ a, (![o + 64, 0] : Fin 2 → Nat) a + S64x1.size a ≤ S512x1.size a)
    (h2 : ∀ a, (![o, 0] : Fin 2 → Nat) a + S64x1.size a ≤ S512x1.size a)
    (h' : ∀ a, (![o, 0] : Fin 2 → Nat) a + S128x1.size a ≤ S512x1.size a)
    (w1 w2 : Vec Ideal S64x1 .f32) (L : List (View.Piece (Elt Ideal) S512x1 .f32))
    (j : (Rect.unit (s := S512x1) ![o, 0] S128x1.size h').shape.Idx) :
    ∃ p ∈ (⟨Rect.unit (s := S512x1) ![o + 64, 0] S64x1.size h1, w1⟩ :: ⟨Rect.unit (s := S512x1) ![o, 0] S64x1.size h2, w2⟩ :: L : List (View.Piece (Elt Ideal) S512x1 .f32)),
      (Rect.unit (s := S512x1) ![o, 0] S128x1.size h').idx j ∈ p.1.set := by
  have v0 : ((Rect.unit (s := S512x1) ![o, 0] S128x1.size h').idx j 0).val = o + (j 0).val := Rect.idx_unit_val _ _ _ _ _
  have v1 : ((Rect.unit (s := S512x1) ![o, 0] S128x1.size h').idx j 1).val < 1 := Fin.isLt _
  have b : (j 0).val < 128 := (j 0).isLt
  generalize (Rect.unit (s := S512x1) ![o, 0] S128x1.size h').idx j = i at v0 v1
  rcases lt_or_ge (j 0).val 64 with h | h
  · refine ⟨⟨Rect.unit (s := S512x1) ![o, 0] S64x1.size h2, w2⟩, .tail _ (.head _),
      (Rect.mem_set_unit (inb := h2)).2 (Fin.forall_fin_two.2 ⟨?_, ?_⟩)⟩
    · show o ≤ (i 0).val ∧ (i 0).val < o + 64; omega
    · show 0 ≤ (i 1).val ∧ (i 1).val < 0 + 1; omega
  · refine ⟨⟨Rect.unit (s := S512x1) ![o + 64, 0] S64x1.size h1, w1⟩, .head _,
      (Rect.mem_set_unit (inb := h1)).2 (Fin.forall_fin_two.2 ⟨?_, ?_⟩)⟩
    · show o + 64 ≤ (i 0).val ∧ (i 0).val < o + 64 + 64; omega
    · show 0 ≤ (i 1).val ∧ (i 1).val < 0 + 1; omega

/-- A read of stores that are blocks of `G` and cover what is read is the read of `G`. -/
theorem readCov_of_pieces {κ : Kind} {sp : Space} {s : Shape} {e : EltTy} (v : View sig κ sp s e) (G : s.Idx → Elt Ideal e)
    (L : List (View.Piece (Elt Ideal) s e)) (r : Rect s) (h : View.PiecesOf G L)
    (hc : ∀ j : r.shape.Idx, ∃ p ∈ L, r.idx j ∈ p.1.set) :
    v.readCov L r.toLoadRect = View.ld G r := by
  rw [View.readCov_eq_canon']
  funext j
  exact View.canon_apply_of_pieces G L h.mem _ (hc j)

end Pieces

section Outs

variable (c : Dev nD) (i : grid0.Coords)
  (arg1 : Memref sig .tc .vmem S512x4736 .bf16) (harg1 : arg1.IsWhole) (arg2 : Memref sig .tc .vmem S4736 .f32) (harg2 : arg2.IsWhole) (arg3 : Memref sig .tc .vmem S3584x4736 .i8) (harg3 : arg3.IsWhole) (arg4 : Memref sig .tc .vmem S3584 .f32) (harg4 : arg4.IsWhole) (arg5 : Memref sig .tc .vmem S3584 .f32) (harg5 : arg5.IsWhole) (arg6 : Memref sig .tc .vmem S512x3584 .bf16) (harg6 : arg6.IsWhole) (arg7 : Memref sig .tc .vmem S512x4736 .i8) (harg7 : arg7.IsWhole) (arg8 : Memref sig .tc .vmem S512 .f32) (harg8 : arg8.IsWhole) (arg9 : Memref sig .tc .vmem S512x4736 .bf16) (harg9 : arg9.IsWhole) (arg10 : Memref sig .tc .vmem S512x1 .f32) (harg10 : arg10.IsWhole) (arg11 : Memref sig .tc .vmem S512x1 .f32) (harg11 : arg11.IsWhole)
  (x0 : Vec Ideal S512x4736 .bf16) (x1 : Vec Ideal S4736 .f32) (x2 : Vec Ideal S3584x4736 .i8)
  (x3 x4 : Vec Ideal S3584 .f32) (xs0 : Vec Ideal S512x4736 .bf16) (xs1 : Vec Ideal S512x1 .f32)

/-- The codes the first point writes. -/
theorem out0_A_6_eq (hc0) (hc1) :
    out0_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 = codesBlk x0 x1 := by
  frame_open; try simp (disch := decide) only [↓ View.readCov_skip, ↓ View.readCov_cons_toLoadRect, ↓ View.readCov_fill]; frame_out
  funext y
  refine View.canon_apply_of_pieces _ _ (View.PiecesOf.mem ?_) y (View.cover_of_tiledL _ (![64, 4736] : Fin 2 → ℕ) (by sl_kernel_rfl) y)
  exact ⟨code_piece x0 x1 448 _, code_piece x0 x1 384 _, code_piece x0 x1 320 _, code_piece x0 x1 256 _,
    code_piece x0 x1 192 _, code_piece x0 x1 128 _, code_piece x0 x1 64 _, code_piece x0 x1 0 _, trivial⟩

/-- The codes a later point writes. -/
theorem out0_B_6_eq (hc0) (hc1) :
    out0_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs1 = codesBlk x0 x1 := by
  frame_open; try simp (disch := decide) only [↓ View.readCov_skip, ↓ View.readCov_cons_toLoadRect, ↓ View.readCov_fill]; frame_out
  funext y
  refine View.canon_apply_of_pieces _ _ (View.PiecesOf.mem ?_) y (View.cover_of_tiledL _ (![64, 4736] : Fin 2 → ℕ) (by sl_kernel_rfl) y)
  exact ⟨code_piece x0 x1 448 _, code_piece x0 x1 384 _, code_piece x0 x1 320 _, code_piece x0 x1 256 _,
    code_piece x0 x1 192 _, code_piece x0 x1 128 _, code_piece x0 x1 64 _, code_piece x0 x1 0 _, trivial⟩

/-- The codes handed over (first point). -/
theorem sout0_A_0_eq (hc0) (hc1) :
    sout0_A_0 (F := Ideal) c i arg1 harg1 arg2 harg2 arg3 harg3 arg4 harg4 arg5 harg5 arg6 harg6 arg7 harg7 arg8 harg8 arg9 harg9 arg10 harg10 arg11 harg11 hc0 hc1 x0 x1 x2 x3 x4 = carryBlk x0 x1 := by
  frame_open; try simp (disch := decide) only [↓ View.readCov_skip, ↓ View.readCov_cons_toLoadRect, ↓ View.readCov_fill]; frame_out
  refine (congrArg (k0_pay41 (F := Ideal)) (readCov_of_pieces _ (codesBlk x0 x1) _ _ ?_ ?_)).trans ?_
  · exact ⟨code_piece x0 x1 448 _, code_piece x0 x1 384 _, code_piece x0 x1 320 _, code_piece x0 x1 256 _,
      code_piece x0 x1 192 _, code_piece x0 x1 128 _, code_piece x0 x1 64 _, code_piece x0 x1 0 _, trivial⟩
  · exact fun j => View.cover_of_tiledL _ (![64, 4736] : Fin 2 → ℕ) (by sl_kernel_rfl) _
  · funext y
    idx_vars y
    rw [pay41_at]
    unfold carryBlk
    refine congrArg (FloatOps.sitofp (F := Ideal) .bf16)
      (View.ld_unit_apply_of (Val := Elt Ideal) (e := .i8) (codesBlk x0 x1) _ _ _ _ _ fun a => ?_)
    fin_cases a <;> exact (Nat.zero_add _).symm

/-- The scales handed over (first point). -/
theorem sout0_A_1_eq (hc0) (hc1) :
    sout0_A_1 (F := Ideal) c i arg1 harg1 arg2 harg2 arg3 harg3 arg4 harg4 arg5 harg5 arg6 harg6 arg7 harg7 arg8 harg8 arg9 harg9 arg10 harg10 arg11 harg11 hc0 hc1 x0 x1 x2 x3 x4 = scalesCol x0 x1 := by
  frame_open; try simp (disch := decide) only [↓ View.readCov_skip, ↓ View.readCov_cons_toLoadRect, ↓ View.readCov_fill]; frame_out
  simp only [scaleA1, scaleA2, scaleA3, scaleA4, scaleA5, scaleA6, scaleA7]
  refine (congrArg (k0_pay42 (F := Ideal)) (readCov_of_pieces _ (scalesCol x0 x1) _ _ ?_ ?_)).trans ?_
  · exact (scale_cons x0 x1 448 _ _ _ (scale_cons x0 x1 384 _ _ _ (scale_cons x0 x1 320 _ _ _ (scale_cons x0 x1 256 _ _ _ (scale_cons x0 x1 192 _ _ _ (scale_cons x0 x1 128 _ _ _ (scale_cons x0 x1 64 _ _ _ (scale_cons x0 x1 0 _ _ _ trivial))))))))
  · exact fun j => View.cover_of_tiledL _ (![64, 1] : Fin 2 → ℕ) (by sl_kernel_rfl) _
  · funext y
    idx_vars y
    obtain rfl : y1 = 0 := Subsingleton.elim _ _
    rw [pay42_at]
    refine View.ld_unit_apply_of (Val := Elt Ideal) (e := .f32) (scalesCol x0 x1) _ _ _ _ _ fun a => ?_
    fin_cases a <;> exact (Nat.zero_add _).symm

/-- The scales a first point writes. -/
theorem out0_A_7_eq (hc0) (hc1) :
    out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 = scalesRow x0 x1 := by
  frame_open; try simp (disch := decide) only [↓ View.readCov_skip, ↓ View.readCov_cons_toLoadRect, ↓ View.readCov_fill]; frame_out
  simp only [scaleA1, scaleA2, scaleA3, scaleA4, scaleA5, scaleA6, scaleA7, row1, row2, row3]
  funext y
  refine View.canon_apply_of_pieces _ _ (View.PiecesOf.mem ?_) y (View.cover_of_tiledL _ (![128] : Fin 1 → ℕ) (by sl_kernel_rfl) y)
  refine ⟨row_piece x0 x1 384 inb_S512_S128_384 inb_S512x1_S128x1_384_0 _ ?_, row_piece x0 x1 256 inb_S512_S128_256 inb_S512x1_S128x1_256_0 _ ?_, row_piece x0 x1 128 inb_S512_S128_128 inb_S512x1_S128x1_128_0 _ ?_, row_piece x0 x1 0 inb_S512_S128_0 inb_S512x1_S128x1_0_0 _ ?_, trivial⟩
  · exact readCov_of_pieces _ (scalesCol x0 x1) _ _ (scale_cons x0 x1 448 _ _ _ (scale_cons x0 x1 384 _ _ _ (scale_cons x0 x1 320 _ _ _ (scale_cons x0 x1 256 _ _ _ (scale_cons x0 x1 192 _ _ _ (scale_cons x0 x1 128 _ _ _ (scale_cons x0 x1 64 _ _ _ (scale_cons x0 x1 0 _ _ _ trivial)))))))) (cover_heads 384 _ _ _ _ _ _)
  · exact readCov_of_pieces _ (scalesCol x0 x1) _ _ (scale_cons x0 x1 320 _ _ _ (scale_cons x0 x1 256 _ _ _ (scale_cons x0 x1 192 _ _ _ (scale_cons x0 x1 128 _ _ _ (scale_cons x0 x1 64 _ _ _ (scale_cons x0 x1 0 _ _ _ trivial)))))) (cover_heads 256 _ _ _ _ _ _)
  · exact readCov_of_pieces _ (scalesCol x0 x1) _ _ (scale_cons x0 x1 192 _ _ _ (scale_cons x0 x1 128 _ _ _ (scale_cons x0 x1 64 _ _ _ (scale_cons x0 x1 0 _ _ _ trivial)))) (cover_heads 128 _ _ _ _ _ _)
  · exact readCov_of_pieces _ (scalesCol x0 x1) _ _ (scale_cons x0 x1 64 _ _ _ (scale_cons x0 x1 0 _ _ _ trivial)) (cover_heads 0 _ _ _ _ _ _)

/-- The codes handed over (later point). -/
theorem sout0_B_0_eq (hc0) (hc1) :
    sout0_B_0 (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs1 = carryBlk x0 x1 := by
  frame_open; try simp (disch := decide) only [↓ View.readCov_skip, ↓ View.readCov_cons_toLoadRect, ↓ View.readCov_fill]; frame_out
  refine (congrArg (k0_pay41 (F := Ideal)) (readCov_of_pieces _ (codesBlk x0 x1) _ _ ?_ ?_)).trans ?_
  · exact ⟨code_piece x0 x1 448 _, code_piece x0 x1 384 _, code_piece x0 x1 320 _, code_piece x0 x1 256 _,
      code_piece x0 x1 192 _, code_piece x0 x1 128 _, code_piece x0 x1 64 _, code_piece x0 x1 0 _, trivial⟩
  · exact fun j => View.cover_of_tiledL _ (![64, 4736] : Fin 2 → ℕ) (by sl_kernel_rfl) _
  · funext y
    idx_vars y
    rw [pay41_at]
    unfold carryBlk
    refine congrArg (FloatOps.sitofp (F := Ideal) .bf16)
      (View.ld_unit_apply_of (Val := Elt Ideal) (e := .i8) (codesBlk x0 x1) _ _ _ _ _ fun a => ?_)
    fin_cases a <;> exact (Nat.zero_add _).symm

/-- The scales handed over (later point). -/
theorem sout0_B_1_eq (hc0) (hc1) :
    sout0_B_1 (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs1 = scalesCol x0 x1 := by
  frame_open; try simp (disch := decide) only [↓ View.readCov_skip, ↓ View.readCov_cons_toLoadRect, ↓ View.readCov_fill]; frame_out
  simp only [scaleB0, scaleB1, scaleB2, scaleB3, scaleB4, scaleB5, scaleB6, scaleB7, carryScB]
  refine (congrArg (k0_pay42 (F := Ideal)) (readCov_of_pieces _ (scalesCol x0 x1) _ _ ?_ ?_)).trans ?_
  · exact (scale_cons x0 x1 448 _ _ _ (scale_cons x0 x1 384 _ _ _ (scale_cons x0 x1 320 _ _ _ (scale_cons x0 x1 256 _ _ _ (scale_cons x0 x1 192 _ _ _ (scale_cons x0 x1 128 _ _ _ (scale_cons x0 x1 64 _ _ _ (scale_cons x0 x1 0 _ _ _ trivial))))))))
  · exact fun j => View.cover_of_tiledL _ (![64, 1] : Fin 2 → ℕ) (by sl_kernel_rfl) _
  · funext y
    idx_vars y
    obtain rfl : y1 = 0 := Subsingleton.elim _ _
    rw [pay42_at]
    refine View.ld_unit_apply_of (Val := Elt Ideal) (e := .f32) (scalesCol x0 x1) _ _ _ _ _ fun a => ?_
    fin_cases a <;> exact (Nat.zero_add _).symm

/-- The scales a later point writes. -/
theorem out0_B_7_eq (hc0) (hc1) :
    out0_B_7 (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs1 = scalesRow x0 x1 := by
  frame_open; try simp (disch := decide) only [↓ View.readCov_skip, ↓ View.readCov_cons_toLoadRect, ↓ View.readCov_fill]; frame_out
  simp only [scaleB0, scaleB1, scaleB2, scaleB3, scaleB4, scaleB5, scaleB6, scaleB7, rowB0, rowB1, rowB2, rowB3]
  funext y
  refine View.canon_apply_of_pieces _ _ (View.PiecesOf.mem ?_) y (View.cover_of_tiledL _ (![128] : Fin 1 → ℕ) (by sl_kernel_rfl) y)
  refine ⟨row_piece x0 x1 384 inb_S512_S128_384 inb_S512x1_S128x1_384_0 _ ?_, row_piece x0 x1 256 inb_S512_S128_256 inb_S512x1_S128x1_256_0 _ ?_, row_piece x0 x1 128 inb_S512_S128_128 inb_S512x1_S128x1_128_0 _ ?_, row_piece x0 x1 0 inb_S512_S128_0 inb_S512x1_S128x1_0_0 _ ?_, trivial⟩
  · exact readCov_of_pieces _ (scalesCol x0 x1) _ _ (scale_cons x0 x1 448 _ _ _ (scale_cons x0 x1 384 _ _ _ (scale_cons x0 x1 320 _ _ _ (scale_cons x0 x1 256 _ _ _ (scale_cons x0 x1 192 _ _ _ (scale_cons x0 x1 128 _ _ _ (scale_cons x0 x1 64 _ _ _ (scale_cons x0 x1 0 _ _ _ trivial)))))))) (cover_heads 384 _ _ _ _ _ _)
  · exact readCov_of_pieces _ (scalesCol x0 x1) _ _ (scale_cons x0 x1 320 _ _ _ (scale_cons x0 x1 256 _ _ _ (scale_cons x0 x1 192 _ _ _ (scale_cons x0 x1 128 _ _ _ (scale_cons x0 x1 64 _ _ _ (scale_cons x0 x1 0 _ _ _ trivial)))))) (cover_heads 256 _ _ _ _ _ _)
  · exact readCov_of_pieces _ (scalesCol x0 x1) _ _ (scale_cons x0 x1 192 _ _ _ (scale_cons x0 x1 128 _ _ _ (scale_cons x0 x1 64 _ _ _ (scale_cons x0 x1 0 _ _ _ trivial)))) (cover_heads 128 _ _ _ _ _ _)
  · exact readCov_of_pieces _ (scalesCol x0 x1) _ _ (scale_cons x0 x1 64 _ _ _ (scale_cons x0 x1 0 _ _ _ trivial)) (cover_heads 0 _ _ _ _ _ _)

/-- The block of `y` a later point writes, from what it was handed. -/
theorem out0_B_5_eq (hc0) (hc1) :
    out0_B_5 (F := Ideal) c i arg1 harg1 arg2 harg2 arg3 harg3 arg4 harg4 arg5 harg5 arg6 harg6 arg7 harg7 arg8 harg8 arg9 harg9 arg10 harg10 arg11 harg11 hc0 hc1 x0 x1 x2 x3 x4 xs0 xs1 = yBlk xs0 xs1 x2 x3 x4 := by
  frame_open; try simp (disch := decide) only [↓ View.readCov_skip, ↓ View.readCov_cons_toLoadRect, ↓ View.readCov_fill]; frame_out
  funext y
  refine View.canon_apply_of_pieces _ _ (View.PiecesOf.mem ?_) y (View.cover_of_tiledL _ (![512, 512] : Fin 2 → ℕ) (by sl_kernel_rfl) y)
  exact ⟨y_piece xs0 xs1 x2 x3 x4 3072 inb_S512x3584_S512x512_0_3072 inb_S3584x4736_S512x4736_3072_0 inb_S3584_S512_3072, y_piece xs0 xs1 x2 x3 x4 2560 inb_S512x3584_S512x512_0_2560 inb_S3584x4736_S512x4736_2560_0 inb_S3584_S512_2560, y_piece xs0 xs1 x2 x3 x4 2048 inb_S512x3584_S512x512_0_2048 inb_S3584x4736_S512x4736_2048_0 inb_S3584_S512_2048, y_piece xs0 xs1 x2 x3 x4 1536 inb_S512x3584_S512x512_0_1536 inb_S3584x4736_S512x4736_1536_0 inb_S3584_S512_1536, y_piece xs0 xs1 x2 x3 x4 1024 inb_S512x3584_S512x512_0_1024 inb_S3584x4736_S512x4736_1024_0 inb_S3584_S512_1024, y_piece xs0 xs1 x2 x3 x4 512 inb_S512x3584_S512x512_0_512 inb_S3584x4736_S512x4736_512_0 inb_S3584_S512_512, y_piece xs0 xs1 x2 x3 x4 0 inb_S512x3584_S512x512_0_0 inb_S3584x4736_S512x4736_0_0 inb_S3584_S512_0, trivial⟩

end Outs

end Cert.Proof

end
-- ==== Proof.Points.lean ====
module

public import proofs.«01_k».proof.Proof.Blocks

/-! What every grid point leaves in the windows and in the scratch it carries, as functions of its own input blocks
and, for y, of the input blocks of the point before. -/

public section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- Point 0 writes the codes and scales of its block of x, and carries them. -/
theorem point_first (c : Dev nD) (t : Fin cfg0.N) (h0 : t.val % 9 = 0) (h1 : ¬1 ≤ t.val) :
    (outsAt0 m c t.val t.isLt).2
      = (codesBlk (iblk m c 0 t) (iblk m c 1 t), scalesRow (iblk m c 0 t) (iblk m c 1 t),
          carryBlk (iblk m c 0 t) (iblk m c 1 t), scalesCol (iblk m c 0 t) (iblk m c 1 t)) := by
  rw [outsAt0_A m c t h0 h1]
  simp only [out0_A_6_eq, out0_A_7_eq, sout0_A_0_eq, sout0_A_1_eq]

/-- A later point writes the codes and scales of its block of x, and carries them. -/
theorem point_later (c : Dev nD) (t : Fin cfg0.N) (h0 : ¬t.val % 9 = 0) (h1 : 1 ≤ t.val) :
    (outsAt0 m c t.val t.isLt).2
      = (codesBlk (iblk m c 0 t) (iblk m c 1 t), scalesRow (iblk m c 0 t) (iblk m c 1 t),
          carryBlk (iblk m c 0 t) (iblk m c 1 t), scalesCol (iblk m c 0 t) (iblk m c 1 t)) := by
  rw [outsAt0_B m c t h0 h1]
  simp only [out0_B_6_eq, out0_B_7_eq, sout0_B_0_eq, sout0_B_1_eq]

/-- Every point writes the codes and scales of its block of x, and carries them. -/
theorem point_eq (c : Dev nD) (t : Fin cfg0.N) :
    (outsAt0 m c t.val t.isLt).2
      = (codesBlk (iblk m c 0 t) (iblk m c 1 t), scalesRow (iblk m c 0 t) (iblk m c 1 t),
          carryBlk (iblk m c 0 t) (iblk m c 1 t), scalesCol (iblk m c 0 t) (iblk m c 1 t)) := by
  have hN : t.val < 9 := t.isLt
  by_cases h : 1 ≤ t.val
  · exact point_later m c t (by omega) h
  · exact point_first m c t (by omega) h

/-- A later point writes y of the block whose codes the point before carried. -/
theorem point_y (c : Dev nD) (t s : Fin cfg0.N) (h : t.val = s.val + 1) :
    (outsAt0 m c t.val t.isLt).1
      = yBlk (carryBlk (iblk m c 0 s) (iblk m c 1 s)) (scalesCol (iblk m c 0 s) (iblk m c 1 s))
          (iblk m c 2 t) (iblk m c 3 t) (iblk m c 4 t) := by
  have hN : t.val < 9 := t.isLt
  rw [outsAt0_B m c t (by omega) (by omega)]
  have e := point_eq m c s
  have hs : t.val - 1 = s.val := by omega
  simp only [out0_B_5_eq, hs, e]

end Cert.Proof
-- ==== Proof.Arrays.lean ====
module

public import proofs.«01_k».proof.Proof.Points
public import Idealize.ShloMosaic.Lib.Claim
public import Idealize.ShloMosaic.Lib.StableHlo.ReadAt

/-! The three arrays the grid leaves, row by row, over the arguments. -/

@[expose] public section

set_option maxRecDepth 16384

noncomputable section

namespace Cert.Proof

open Idealize.ShloMosaic Idealize.ShloMosaic.TcCoe Idealize.SL.Sem
open Cert.KernelIdeal Cert.KernelIdeal.Gen

/-- The codes of x over 4096 rows. -/
def codesArr (x : Vec Ideal S1x4096x4736 .bf16) (s : Vec Ideal S4736 .f32) : Vec Ideal S4096x4736 .i8 :=
  fun i => rowCode (fun k => x (ix3 0 (i 0) k)) (fun k => s (ix1 k)) (i 1)

/-- The scales of x over 4096 rows. -/
def scalesArr (x : Vec Ideal S1x4096x4736 .bf16) (s : Vec Ideal S4736 .f32) : Vec Ideal S4096 .f32 :=
  fun i => rowScale (fun k => x (ix3 0 (i 0) k)) (fun k => s (ix1 k))

/-- y over 4096 rows and 3584 columns. -/
def yArr (x : Vec Ideal S1x4096x4736 .bf16) (s : Vec Ideal S4736 .f32) (w : Vec Ideal S3584x4736 .i8)
    (ws b : Vec Ideal S3584 .f32) : Vec Ideal S4096x3584 .bf16 :=
  fun i => rowY (fun k => x (ix3 0 (i 0) k)) (fun k => s (ix1 k)) (fun k => w (ix2 (i 1) k)) (ws (ix1 (i 1))) (b (ix1 (i 1)))

variable (m : (ℓ : Loc nD τ sig) → Buf (Elt Ideal) ℓ)

theorem index0 : ∀ t : Fin cfg0.N, win0_0.index t = ![min t.val 7, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0] := (by decide +kernel : ∀ t : Fin grid0.N, _)
theorem index4 : ∀ t : Fin cfg0.N, win0_4.index t = ![0] := (by decide +kernel : ∀ t : Fin grid0.N, _)
theorem index5 : ∀ t : Fin cfg0.N, win0_5.index t = ![t.val - 1, 0] := (by decide +kernel : ∀ t : Fin grid0.N, _)
theorem index6 : ∀ t : Fin cfg0.N, win0_6.index t = ![min t.val 7, 0] := (by decide +kernel : ∀ t : Fin grid0.N, _)
theorem index7 : ∀ t : Fin cfg0.N, win0_7.index t = ![min t.val 7] := (by decide +kernel : ∀ t : Fin grid0.N, _)

/-- The array the first window reads is x without its unit axis. -/
theorem x_entry (c : Dev nD) (r : Fin 4096) (k : Fin 4736) :
    V m c main_v0 (ix2 r k) = (m ((c : Thread nD τ).loc main_arg0) : Vec Ideal S1x4096x4736 .bf16) (ix3 0 r k) := by
  unfold V
  after_reads_at

/-- Row p of the block of x at point t. -/
theorem x_blk (c : Dev nD) (t : Fin cfg0.N) (p : Fin 512) (k : Fin 4736) (r : Fin 4096)
    (hr : r.val = min t.val 7 * 512 + p.val) :
    (iblk m c 0 t : Vec Ideal S512x4736 .bf16) (ix2 p k)
      = (m ((c : Thread nD τ).loc main_arg0) : Vec Ideal S1x4096x4736 .bf16) (ix3 0 r k) := by
  refine Eq.trans ?_ (x_entry m c r k)
  blk_simp [iblk]
  refine congrArg (V m c main_v0) ?_
  blk_ext [index0]

/-- The block of the smoothing vector is the vector. -/
theorem s_blk (c : Dev nD) (t : Fin cfg0.N) (k : Fin 4736) :
    (iblk m c 1 t : Vec Ideal S4736 .f32) (ix1 k) = (m ((c : Thread nD τ).loc main_arg1) : Vec Ideal S4736 .f32) (ix1 k) := by
  refine Eq.trans ?_ (congrFun (V_main_arg1 m c) (ix1 k))
  blk_simp [iblk]
  refine congrArg (V m c main_arg1) ?_
  blk_ext [index1]

/-- The block of the weights' codes is the whole array. -/
theorem w_blk (c : Dev nD) (t : Fin cfg0.N) (q : Fin 3584) (k : Fin 4736) :
    (iblk m c 2 t : Vec Ideal S3584x4736 .i8) (ix2 q k)
      = (m ((c : Thread nD τ).loc main_arg2) : Vec Ideal S3584x4736 .i8) (ix2 q k) := by
  refine Eq.trans ?_ (congrFun (V_main_arg2 m c) (ix2 q k))
  blk_simp [iblk]
  refine congrArg (V m c main_arg2) ?_
  blk_ext [index2]

/-- The block of the weights' scales is the whole vector. -/
theorem ws_blk (c : Dev nD) (t : Fin cfg0.N) (q : Fin 3584) :
    (iblk m c 3 t : Vec Ideal S3584 .f32) (ix1 q) = (m ((c : Thread nD τ).loc main_arg3) : Vec Ideal S3584 .f32) (ix1 q) := by
  refine Eq.trans ?_ (congrFun (V_main_arg3 m c) (ix1 q))
  blk_simp [iblk]
  refine congrArg (V m c main_arg3) ?_
  blk_ext [index3]

/-- The block of the bias is the whole vector. -/
theorem b_blk (c : Dev nD) (t : Fin cfg0.N) (q : Fin 3584) :
    (iblk m c 4 t : Vec Ideal S3584 .f32) (ix1 q) = (m ((c : Thread nD τ).loc main_arg4) : Vec Ideal S3584 .f32) (ix1 q) := by
  refine Eq.trans ?_ (congrFun (V_main_arg4 m c) (ix1 q))
  blk_simp [iblk]
  refine congrArg (V m c main_arg4) ?_
  blk_ext [index4]

/-- A row of the block of x, and the smoothing vector, as the quantiser of a row takes them. -/
theorem row_blk (c : Dev nD) (t : Fin cfg0.N) (p : Fin 512) (r : Fin 4096) (hr : r.val = min t.val 7 * 512 + p.val) :
    (fun k : Fin 4736 => (iblk m c 0 t : Vec Ideal S512x4736 .bf16) (ix2 p k))
      = fun k => (m ((c : Thread nD τ).loc main_arg0) : Vec Ideal S1x4096x4736 .bf16) (ix3 0 r k) :=
  funext fun k => x_blk m c t p k r hr

theorem smooth_blk (c : Dev nD) (t : Fin cfg0.N) :
    (fun k : Fin 4736 => (iblk m c 1 t : Vec Ideal S4736 .f32) (ix1 k))
      = fun k => (m ((c : Thread nD τ).loc main_arg1) : Vec Ideal S4736 .f32) (ix1 k) :=
  funext fun k => s_blk m c t k

/-- y of a block from the carried codes and scales, at an element. -/
theorem yBlk_at (x0 : Vec Ideal S512x4736 .bf16) (x1 : Vec Ideal S4736 .f32) (x2 : Vec Ideal S3584x4736 .i8)
    (x3 x4 : Vec Ideal S3584 .f32) (p : Fin 512) (q : Fin 3584) :
    yBlk (carryBlk x0 x1) (scalesCol x0 x1) x2 x3 x4 (ix2 p q)
      = rowY (fun k => x0 (ix2 p k)) (fun k => x1 (ix1 k)) (fun k => x2 (ix2 q k)) (x3 (ix1 q)) (x4 (ix1 q)) := rfl

theorem codesBlk_at (x0 : Vec Ideal S512x4736 .bf16) (x1 : Vec Ideal S4736 .f32) (p : Fin 512) (k : Fin 4736) :
    codesBlk x0 x1 (ix2 p k) = rowCode (fun k => x0 (ix2 p k)) (fun k => x1 (ix1 k)) k := rfl

theorem scalesRow_at (x0 : Vec Ideal S512x4736 .bf16) (x1 : Vec Ideal S4736 .f32) (p : Fin 512) :
    scalesRow x0 x1 (ix1 p) = rowScale (fun k => x0 (ix2 p k)) (fun k => x1 (ix1 k)) := rfl

/-- The block of codes a point writes, at the array's coordinates. -/
theorem codes_at (c : Dev nD) (t : Fin cfg0.N) (y : S512x4736.Idx) (i : S4096x4736.Idx)
    (h0 : (i 0).val = min t.val 7 * 512 + (y 0).val) (h1 : (i 1).val = (y 1).val) :
    codesBlk (iblk m c 0 t) (iblk m c 1 t) y
      = codesArr (m ((c : Thread nD τ).loc main_arg0)) (m ((c : Thread nD τ).loc main_arg1)) i := by
  idx_vars y; idx_vars i
  obtain rfl : i1 = y1 := Fin.ext h1
  rw [codesBlk_at, row_blk m c t y0 i0 h0, smooth_blk]
  rfl

/-- The block of scales a point writes, at the array's coordinates. -/
theorem scales_at (c : Dev nD) (t : Fin cfg0.N) (y : S512.Idx) (i : S4096.Idx)
    (h0 : (i 0).val = min t.val 7 * 512 + (y 0).val) :
    scalesRow (iblk m c 0 t) (iblk m c 1 t) y
      = scalesArr (m ((c : Thread nD τ).loc main_arg0)) (m ((c : Thread nD τ).loc main_arg1)) i := by
  idx_vars y; idx_vars i
  rw [scalesRow_at, row_blk m c t y0 i0 h0, smooth_blk]
  rfl

/-- The block of y a point writes, at the array's coordinates. -/
theorem y_at (c : Dev nD) (t s : Fin cfg0.N) (y : S512x3584.Idx) (i : S4096x3584.Idx)
    (h0 : (i 0).val = min s.val 7 * 512 + (y 0).val) (h1 : (i 1).val = (y 1).val) :
    yBlk (carryBlk (iblk m c 0 s) (iblk m c 1 s)) (scalesCol (iblk m c 0 s) (iblk m c 1 s))
        (iblk m c 2 t) (iblk m c 3 t) (iblk m c 4 t) y
      = yArr (m ((c : Thread nD τ).loc main_arg0)) (m ((c : Thread nD τ).loc main_arg1)) (m ((c : Thread nD τ).loc main_arg2))
          (m ((c : Thread nD τ).loc main_arg3)) (m ((c : Thread nD τ).loc main_arg4)) i := by
  idx_vars y; idx_vars i
  obtain rfl : i1 = y1 := Fin.ext h1
  have hw : (fun k : Fin 4736 => (iblk m c 2 t : Vec Ideal S3584x4736 .i8) (ix2 i1 k))
      = fun k => (m ((c : Thread nD τ).loc main_arg2) : Vec Ideal S3584x4736 .i8) (ix2 i1 k) :=
    funext fun k => w_blk m c t i1 k
  rw [yBlk_at, row_blk m c s y0 i0 h0, smooth_blk, hw, ws_blk, b_blk]
  rfl

/-- After the grid the codes' array holds the codes of every row. -/
theorem final_codes (c : Dev nD) : (dats m 0 c).arrAt 6 cfg0.N
    = codesArr (m ((c : Thread nD τ).loc main_arg0)) (m ((c : Thread nD τ).loc main_arg1)) := by
  refine (dats m 0 c).arrAt_eq_of_covers 6 _ (by decide +kernel) fun t hf y => ?_
  blk_simp
  rw [after0_6, point_eq]
  refine codes_at m c t y _ ?_ ?_
  all_goals blk_simp [index6]
  all_goals simp

/-- After the grid the scales' array holds the scale of every row. -/
theorem final_scales (c : Dev nD) : (dats m 0 c).arrAt 7 cfg0.N
    = scalesArr (m ((c : Thread nD τ).loc main_arg0)) (m ((c : Thread nD τ).loc main_arg1)) := by
  refine (dats m 0 c).arrAt_eq_of_covers 7 _ (by decide +kernel) fun t hf y => ?_
  blk_simp
  rw [after0_7, point_eq]
  refine scales_at m c t y _ ?_
  all_goals blk_simp [index7]
  all_goals simp

/-- No block of y is written back at point 0. -/
theorem flush_y : ∀ t : Fin cfg0.N, (cfg0.win 5).flush t = true → 1 ≤ t.val := (by decide +kernel : ∀ t : Fin grid0.N, _)

/-- After the grid the array of y holds y of every row. -/
theorem final_y (c : Dev nD) : (dats m 0 c).arrAt 5 cfg0.N
    = yArr (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  have h1 := flush_y t hf
  have hN : t.val < 9 := t.isLt
  have hs : t.val - 1 < cfg0.N := Nat.lt_of_le_of_lt (Nat.sub_le _ _) t.isLt
  blk_simp
  rw [after0_5, point_y m c t ⟨t.val - 1, hs⟩ (by simp only; omega)]
  refine y_at m c t ⟨t.val - 1, hs⟩ y _ ?_ ?_
  all_goals blk_simp [index5]
  all_goals simp
  all_goals omega

end Cert.Proof
-- ==== Proof.Tail.lean ====
module

public import proofs.«01_k».proof.Proof.Arrays
public import Idealize.ShloMosaic.Lib.StableHlo.RunRead

/-! The three results of the program: the arrays that the grid leaves, reshaped by the host. -/

@[expose] public section

set_option maxRecDepth 16384

noncomputable section

namespace Cert.Proof

open Idealize.ShloMosaic Idealize.ShloMosaic.TcCoe Idealize.SL.Sem
open Cert.KernelIdeal Cert.KernelIdeal.Gen

/-- The result y: y of every row, with a leading unit axis. -/
def yRes (x : Vec Ideal S1x4096x4736 .bf16) (s : Vec Ideal S4736 .f32) (w : Vec Ideal S3584x4736 .i8)
    (ws b : Vec Ideal S3584 .f32) : Vec Ideal S1x4096x3584 .bf16 :=
  fun i => rowY (fun k => x (ix3 0 (i 1) k)) (fun k => s (ix1 k)) (fun k => w (ix2 (i 2) k)) (ws (ix1 (i 2))) (b (ix1 (i 2)))

/-- The result x_codes: the codes of every row, with a leading unit axis. -/
def codesRes (x : Vec Ideal S1x4096x4736 .bf16) (s : Vec Ideal S4736 .f32) : Vec Ideal S1x4096x4736 .i8 :=
  fun i => rowCode (fun k => x (ix3 0 (i 1) k)) (fun k => s (ix1 k)) (i 2)

/-- The result x_scales: the scale of every row, with a leading and a trailing unit axis. -/
def scalesRes (x : Vec Ideal S1x4096x4736 .bf16) (s : Vec Ideal S4736 .f32) : Vec Ideal S1x4096x1 .f32 :=
  fun i => rowScale (fun k => x (ix3 0 (i 1) k)) (fun k => s (ix1 k))

variable (m : (ℓ : Loc nD τ sig) → Buf (Elt Ideal) ℓ)

/-- The host's reshape of the array of y. -/
theorem y_cast (x : Vec Ideal S1x4096x4736 .bf16) (s : Vec Ideal S4736 .f32) (w : Vec Ideal S3584x4736 .i8)
    (ws b : Vec Ideal S3584 .f32) :
    shapeCast S1x4096x3584 (yArr x s w ws b) shapeCasts_S4096x3584_S1x4096x3584 = yRes x s w ws b := by
  funext i
  idx_vars i
  pointwise
  rfl

/-- The host's reshape of the array of codes. -/
theorem codes_cast (x : Vec Ideal S1x4096x4736 .bf16) (s : Vec Ideal S4736 .f32) :
    shapeCast S1x4096x4736 (codesArr x s) shapeCasts_S4096x4736_S1x4096x4736 = codesRes x s := by
  funext i
  idx_vars i
  pointwise
  rfl

/-- The host's reshape of the array of scales. -/
theorem scales_cast (x : Vec Ideal S1x4096x4736 .bf16) (s : Vec Ideal S4736 .f32) :
    shapeCast S1x4096x1 (scalesArr x s) shapeCasts_S4096_S1x4096x1 = scalesRes x s := by
  funext i
  idx_vars i
  pointwise
  rfl

/-- What the program's first result holds at the end. -/
theorem tail_y (c : Dev nD) : Pipeline.afterTail₀ cfgs (dats m) 0 (V0 m) [hostOps1] c main_v2
    = yRes (m ((c : Thread nD τ).loc main_arg0)) (m ((c : Thread nD τ).loc main_arg1)) (m ((c : Thread nD τ).loc main_arg2))
          (m ((c : Thread nD τ).loc main_arg3)) (m ((c : Thread nD τ).loc main_arg4)) := by
  have e := Pipeline.withArrays_arr spec0 (by decide) c (V0 m c) (fun w => (dats m 0 c).arrAt w cfg0.N) 5
  rw [final_y] at e
  refine Eq.trans ?_ (y_cast _ _ _ _ _)
  rw [← e]
  unfold Pipeline.afterTail₀
  after_reads_simp
  rfl

/-- What the program's second result holds at the end. -/
theorem tail_codes (c : Dev nD) : Pipeline.afterTail₀ cfgs (dats m) 0 (V0 m) [hostOps1] c main_v3
    = codesRes (m ((c : Thread nD τ).loc main_arg0)) (m ((c : Thread nD τ).loc main_arg1)) := by
  have e := Pipeline.withArrays_arr spec0 (by decide) c (V0 m c) (fun w => (dats m 0 c).arrAt w cfg0.N) 6
  rw [final_codes] at e
  refine Eq.trans ?_ (codes_cast _ _)
  rw [← e]
  unfold Pipeline.afterTail₀
  after_reads_simp
  rfl

/-- What the program's third result holds at the end. -/
theorem tail_scales (c : Dev nD) : Pipeline.afterTail₀ cfgs (dats m) 0 (V0 m) [hostOps1] c main_v4
    = scalesRes (m ((c : Thread nD τ).loc main_arg0)) (m ((c : Thread nD τ).loc main_arg1)) := by
  have e := Pipeline.withArrays_arr spec0 (by decide) c (V0 m c) (fun w => (dats m 0 c).arrAt w cfg0.N) 7
  rw [final_scales] at e
  refine Eq.trans ?_ (scales_cast _ _)
  rw [← e]
  unfold Pipeline.afterTail₀
  after_reads_simp
  rfl

/-- Every run of the kernel's ideal program ends with y, the codes and the scales of the arguments in its three
results, and leaves the arguments as they were. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
          = yRes (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c.tc : Thread nD τ).loc main_v3)
          = codesRes (m ((c : Thread nD τ).loc main_arg0)) (m ((c : Thread nD τ).loc main_arg1))
      ∧ r.2.mem ((c.tc : Thread nD τ).loc main_v4)
          = scalesRes (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c =>
    ⟨(h.1.rest_eq c main_v2 (by decide)).trans (tail_y m c),
      (h.1.rest_eq c main_v3 (by decide)).trans (tail_codes m c),
      (h.1.rest_eq c main_v4 (by decide)).trans (tail_scales m c), h.2 c⟩)
    (θ_run_and (run_main m ρ) (unchanged m ρ))

end Cert.Proof
-- ==== Proof.IntDot.lean ====
/- The exact integer product: an int32 sum of 4736 products of bytes, converted, is the exact sum. -/
module

public import proofs.«01_k».proof.Proof.Spec

@[expose] public section

noncomputable section

namespace Cert.Proof

open Idealize.ShloMosaic

/-- A wrapping sum of words whose magnitudes cannot add up to `2³¹` is the sum of their integers. -/
theorem toInt_fold_addi {ι : Type} [DecidableEq ι] (f : ι → BitVec 32) (B : ℤ) (hB : 0 ≤ B)
    (hf : ∀ k, |(f k).toInt| ≤ B) (S : Finset ι) (hS : B * S.card < 2 ^ 31) :
    (S.fold IntOp.addi (0#32) f).toInt = ∑ k ∈ S, (f k).toInt := by
  induction S using Finset.induction_on with
  | empty => simp
  | insert a S ha ih =>
    rw [Finset.card_insert_of_notMem ha] at hS
    push_cast at hS
    have hS' : B * S.card < 2 ^ 31 := by nlinarith
    have hsum : |∑ k ∈ S, (f k).toInt| ≤ B * S.card := by
      refine (Finset.abs_sum_le_sum_abs _ _).trans ((Finset.sum_le_sum fun k _ => hf k).trans ?_)
      simp [mul_comm]
    rw [Finset.fold_insert ha, Finset.sum_insert ha, IntOp.addi, BitVec.toInt_add, ih hS']
    have h1 := abs_le.1 (hf a)
    have h2 := abs_le.1 hsum
    apply Int.bmod_eq_of_le <;> norm_num <;> nlinarith

/-- The product of two sign-extended bytes does not wrap. -/
theorem toInt_muli (c w : BitVec 8) :
    (IntOp.muli (BitVec.signExtend 32 c) (BitVec.signExtend 32 w)).toInt = c.toInt * w.toInt := by
  have hc := BitVec.toInt_lt (x := c)
  have hc' := BitVec.le_toInt (x := c)
  have hw := BitVec.toInt_lt (x := w)
  have hw' := BitVec.le_toInt (x := w)
  norm_num at hc hc' hw hw'
  rw [IntOp.muli, BitVec.toInt_mul, BitVec.toInt_signExtend_of_le (by norm_num), BitVec.toInt_signExtend_of_le (by norm_num)]
  apply Int.bmod_eq_of_le <;> norm_num <;> nlinarith

/-- The sum of reals, as an extended real, is the sum of the extended reals. -/
theorem coe_sum {ι : Type} [DecidableEq ι] (f : ι → ℝ) (S : Finset ι) :
    ((∑ k ∈ S, f k : ℝ) : EReal) = ∑ k ∈ S, (f k : EReal) := by
  induction S using Finset.induction_on with
  | empty => simp
  | insert a S ha ih => rw [Finset.sum_insert ha, Finset.sum_insert ha, EReal.coe_add, ih]

/-- The int32 sum of the products of 4736 pairs of bytes, converted, is the sum of the products of the
    converted bytes. -/
theorem sitofp_dot (c w : Fin 4736 → BitVec 8) :
    FloatOps.sitofp (F := Ideal) .f32 (Finset.univ.fold IntOp.addi (0#32)
      (fun k => IntOp.muli (BitVec.signExtend 32 (c k)) (BitVec.signExtend 32 (w k))))
      = ∑ k : Fin 4736, FloatOps.sitofp (F := Ideal) .bf16 (c k) * FloatOps.sitofp (F := Ideal) .bf16 (w k) := by
  have hb : ∀ k : Fin 4736, |(IntOp.muli (BitVec.signExtend 32 (c k)) (BitVec.signExtend 32 (w k))).toInt| ≤ 16384 := by
    intro k
    rw [toInt_muli, abs_mul]
    have h : ∀ b : BitVec 8, |b.toInt| ≤ 128 := fun b => by
      have h1 := BitVec.toInt_lt (x := b)
      have h2 := BitVec.le_toInt (x := b)
      norm_num at h1 h2
      exact abs_le.2 ⟨by omega, by omega⟩
    have := mul_le_mul (h (c k)) (h (w k)) (abs_nonneg _) (by norm_num)
    linarith
  have hi := toInt_fold_addi (fun k : Fin 4736 => IntOp.muli (BitVec.signExtend 32 (c k)) (BitVec.signExtend 32 (w k)))
    16384 (by norm_num) hb Finset.univ (by rw [Finset.card_univ, Fintype.card_fin]; norm_num)
  simp only [toInt_muli] at hi
  show (((Finset.univ.fold IntOp.addi (0#32) (fun k => IntOp.muli (BitVec.signExtend 32 (c k)) (BitVec.signExtend 32 (w k)))).toInt : ℝ) : EReal)
    = ∑ k : Fin 4736, (((c k).toInt : ℝ) : EReal) * (((w k).toInt : ℝ) : EReal)
  rw [hi]
  push_cast
  rw [coe_sum]
  simp only [EReal.coe_mul]

end Cert.Proof
end
-- ==== Proof.Reference.lean ====
/- The reference's three results at an index, in the terms of `Spec`. -/
module

public import proofs.«01_k».proof.Proof.Gen.ReferenceIdeal.Skeleton
public import Idealize.ShloMosaic.Lib.Pipeline.ValueKit
public import Idealize.ShloMosaic.Lib.Pointwise
public import proofs.«01_k».proof.Proof.IntDot

@[expose] public section

set_option maxRecDepth 16384

noncomputable section

namespace Cert.Proof
open Idealize.ShloMosaic
open Cert.ReferenceIdeal

/-- The scaling of the integer products at an index, over any shape. -/
theorem y_apply {S : Shape} (n : IVec S 32) (a b c : FVec Ideal S .f32) (j : S.Idx) :
    (truncf .bf16 (addf (mulf (mulf (sitofp .f32 n) a) b) c) Cert.ReferenceIdeal.Gen.bitsLt_bf16_f32 : FVec Ideal S .bf16) j
      = FloatOps.sitofp (F := Ideal) .f32 (n j) * a j * b j + c j := by
  pointwise

/-- The smoothed entries. -/
theorem k0_pay1_at (x : Vec Ideal S1x4096x4736 .bf16) (s : Vec Ideal S4736 .f32) (p : Fin 4096) (k : Fin 4736) :
    Gen.k0_pay1 (F := Ideal) x s (ix3 0 p k) = rowQ (fun k => x (ix3 0 p k)) (fun k => s (ix1 k)) k := by
  unfold Gen.k0_pay1 rowQ
  pointwise

/-- The rows' largest magnitudes. -/
theorem max_at (v : FVec Ideal S1x4096x4736 .f32) (p : Fin 4096) :
    (shapeCast S1x4096x1 (multiReduction .maximumf [2] S1x4096 (absf v) 0xFF800000#32
      Cert.ReferenceIdeal.Gen.reduces_S1x4096x4736_S1x4096 (.inl rfl) rfl)
      Cert.ReferenceIdeal.Gen.shapeCasts_S1x4096_S1x4096x1) (ix3 0 p 0)
      = Finset.univ.fold max (Ideal.ofBits FTy.f32 4286578688#32)
          (fun k => FloatOps.absf (F := Ideal) (φ := .f32) (v (ix3 0 p k))) := by
  pointwise

/-- The rows' scales. -/
theorem k0_pay2_at (x : Vec Ideal S1x4096x4736 .bf16) (s : Vec Ideal S4736 .f32) (p : Fin 4096) :
    Gen.k0_pay2 (F := Ideal) x s (ix3 0 p 0) = rowScale (fun k => x (ix3 0 p k)) (fun k => s (ix1 k)) := by
  unfold Gen.k0_pay2
  rw [scale_apply, max_at]
  simp only [k0_pay1_at]
  rfl

/-- The codes. -/
theorem k0_pay3_at (x : Vec Ideal S1x4096x4736 .bf16) (s : Vec Ideal S4736 .f32) (p : Fin 4096) (k : Fin 4736) :
    Gen.k0_pay3 (F := Ideal) x s (ix3 0 p k) = rowCode (fun k => x (ix3 0 p k)) (fun k => s (ix1 k)) k := by
  have h : (broadcastTo S1x4096x4736 (Gen.k0_pay2 (F := Ideal) x s)
      Cert.ReferenceIdeal.Gen.broadcasts_S1x4096x1_S1x4096x4736) (ix3 0 p k) = Gen.k0_pay2 (F := Ideal) x s (ix3 0 p 0) := by
    generalize Gen.k0_pay2 (F := Ideal) x s = w
    pointwise
  unfold Gen.k0_pay3
  rw [code_apply, h, k0_pay1_at, k0_pay2_at]
  rfl

/-- The int32 products of rows of codes with rows of weight codes. -/
theorem acc_at (a : IVec S1x4096x4736 32) (w : IVec S3584x4736 32) (p : Fin 4096) (q : Fin 3584) :
    (multiReductionI .add [3] S1x4096x3584 (muli (broadcastTo S1x4096x3584x4736 (shapeCast S1x4096x1x4736 a Cert.ReferenceIdeal.Gen.shapeCasts_S1x4096x4736_S1x4096x1x4736) Cert.ReferenceIdeal.Gen.broadcasts_S1x4096x1x4736_S1x4096x3584x4736)
      (broadcastTo S1x4096x3584x4736 (shapeCast S1x1x3584x4736 w Cert.ReferenceIdeal.Gen.shapeCasts_S3584x4736_S1x1x3584x4736) Cert.ReferenceIdeal.Gen.broadcasts_S1x1x3584x4736_S1x4096x3584x4736)) 0#32 Cert.ReferenceIdeal.Gen.reduces_S1x4096x3584x4736_S1x4096x3584 rfl) (ix3 0 p q)
    = Finset.univ.fold IntOp.addi (0#32) (fun k => IntOp.muli (a (ix3 0 p k)) (w (ix2 q k))) := by
  pointwise

/-- The result `y`. -/
theorem k0_pay4_at (x : Vec Ideal S1x4096x4736 .bf16) (s : Vec Ideal S4736 .f32) (w : Vec Ideal S3584x4736 .i8)
    (ws b : Vec Ideal S3584 .f32) (p : Fin 4096) (q : Fin 3584) :
    Gen.k0_pay4 (F := Ideal) x s w ws b (ix3 0 p q)
      = rowY (fun k => x (ix3 0 p k)) (fun k => s (ix1 k)) (fun k => w (ix2 q k)) (ws (ix1 q)) (b (ix1 q)) := by
  have h1 : (broadcastTo S1x4096x3584 (Gen.k0_pay2 (F := Ideal) x s)
      Cert.ReferenceIdeal.Gen.broadcasts_S1x4096x1_S1x4096x3584) (ix3 0 p q) = Gen.k0_pay2 (F := Ideal) x s (ix3 0 p 0) := by
    generalize Gen.k0_pay2 (F := Ideal) x s = v
    pointwise
  have h2 : ∀ v : Vec Ideal S3584 .f32, (broadcastTo S1x4096x3584 (shapeCast S1x1x3584 v
      Cert.ReferenceIdeal.Gen.shapeCasts_S3584_S1x1x3584)
      Cert.ReferenceIdeal.Gen.broadcasts_S1x1x3584_S1x4096x3584 : FVec Ideal S1x4096x3584 .f32) (ix3 0 p q) = v (ix1 q) := by
    intro v
    pointwise
  unfold Gen.k0_pay4
  rw [y_apply, h1, h2, h2, acc_at, k0_pay2_at]
  have h3 : (fun k : Fin 4736 => IntOp.muli (extsi 32 (Gen.k0_pay3 (F := Ideal) x s) Cert.ReferenceIdeal.Gen.natLt_8_32 (ix3 0 p k))
      (extsi 32 w Cert.ReferenceIdeal.Gen.natLt_8_32 (ix2 q k)))
      = fun k => IntOp.muli (BitVec.signExtend 32 (rowCode (fun k => x (ix3 0 p k)) (fun k => s (ix1 k)) k))
          (BitVec.signExtend 32 (w (ix2 q k))) := by
    funext k
    rw [← k0_pay3_at]
    rfl
  rw [h3, sitofp_dot]
  rfl

end Cert.Proof

end
-- ==== Proof.lean ====
/- The kernel and the reference terminate and leave their arguments alone, and over the extended reals they compute the
   same y, codes and scales: row by row the same quantiser (Spec.lean) and the same exact dot product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Tail
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference's y is the kernel's. -/
theorem ref_y (x : Vec Ideal S1x4096x4736 .bf16) (s : Vec Ideal S4736 .f32) (w : Vec Ideal S3584x4736 .i8)
    (ws b : Vec Ideal S3584 .f32) : Cert.ReferenceIdeal.Gen.k0_pay4 (F := Ideal) x s w ws b = yRes x s w ws b := by
  funext i
  idx_vars i
  obtain rfl : i0 = 0 := Subsingleton.elim _ _
  exact k0_pay4_at x s w ws b i1 i2

/-- The reference's codes are the kernel's. -/
theorem ref_codes (x : Vec Ideal S1x4096x4736 .bf16) (s : Vec Ideal S4736 .f32) :
    Cert.ReferenceIdeal.Gen.k0_pay3 (F := Ideal) x s = codesRes x s := by
  funext i
  idx_vars i
  obtain rfl : i0 = 0 := Subsingleton.elim _ _
  exact k0_pay3_at x s i1 i2

/-- The reference's scales are the kernel's. -/
theorem ref_scales (x : Vec Ideal S1x4096x4736 .bf16) (s : Vec Ideal S4736 .f32) :
    Cert.ReferenceIdeal.Gen.k0_pay2 (F := Ideal) x s = scalesRes x s := by
  funext i
  idx_vars i
  obtain rfl : i0 = 0 := Subsingleton.elim _ _
  obtain rfl : i2 = 0 := Subsingleton.elim _ _
  exact k0_pay2_at x s i1

/-- From equal arguments the kernel and the reference end with equal results. -/
theorem equal : Cert.algebraic_KernelIdeal_ReferenceIdeal (hKernelIdeal := Cert.KernelIdeal.Gen.facts)
    (hReferenceIdeal := Cert.ReferenceIdeal.Gen.facts) := by
  intro m g m' g' _ hargs
  refine ⟨_, _, _, kernel_run m g, ?_⟩
  refine (θ_run _ _ _).mono (fun r h c => ?_) (Cert.ReferenceIdeal.Value.run (F := Ideal) m' g')
  obtain ⟨h5, h6, h7, hk⟩ := h c
  obtain ⟨e0, e1, e2, e3, e4⟩ := hargs c
  refine ⟨h5.trans ?_, h6.trans ?_, h7.trans ?_, hk⟩
  · rw [e0, e1, e2, e3, e4]; exact ref_y _ _ _ _ _
  · rw [e0, e1]; exact ref_codes _ _
  · rw [e0, e1]; exact ref_scales _ _

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, equal⟩

end Cert.Proof

end
